-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192 : Shape := ⟨2, ![4, 8192]⟩
abbrev S16384x128 : Shape := ⟨2, ![16384, 128]⟩
abbrev S1x8192x128 : Shape := ⟨3, ![1, 8192, 128]⟩
abbrev S2x256x128 : Shape := ⟨3, ![2, 256, 128]⟩
abbrev S2 : Shape := ⟨1, ![2]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S8192x128 : Shape := ⟨2, ![8192, 128]⟩

abbrev nBuf : Table → Nat
  | .hbm => 3
  | .shared => 1
  | _ => 0

abbrev bufTy : (tb : Table) → Fin (nBuf tb) → BufTy
  | .hbm, ⟨0, _⟩ => ⟨S4x8192, .i32⟩
  | .hbm, ⟨1, _⟩ => ⟨S16384x128, .f32⟩
  | .hbm, ⟨2, _⟩ => ⟨S1x8192x128, .f32⟩
  | .shared, ⟨0, _⟩ => ⟨S2x256x128, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scs : Ref sig .scScalar := ⟨.hbm, 1, rfl⟩
abbrev main_v0_scs : Ref sig .scScalar := ⟨.hbm, 2, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 2 → Nat :=
  let arg0 : BitVec 32 := BitVec.ofNat 32 (i 0).val
  let c4096_i32 : BitVec 32 := 4096#32
  let v0 : BitVec 32 := Scalar.muli arg0 c4096_i32
  let v1 : BitVec 32 := Scalar.addi v0 c0_i32
  let c0_i32_4 : BitVec 32 := 0#32
  ![v1.toNat, 0]
def k0_off2 (i : grid0.Coords) (c0_i32_15 : BitVec 32) : Fin 2 → Nat :=
  let arg0 : BitVec 32 := BitVec.ofNat 32 (i 0).val
  let c4096_i32 : BitVec 32 := 4096#32
  let v0 : BitVec 32 := Scalar.muli arg0 c4096_i32
  let v19 : BitVec 32 := Scalar.addi v0 c0_i32_15
  let c0_i32_21 : BitVec 32 := 0#32
  ![v19.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x8192 : Shape := ⟨2, ![4, 8192]⟩
abbrev S16384x128 : Shape := ⟨2, ![16384, 128]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x128 : Shape := ⟨2, ![8192, 128]⟩
abbrev S1x8192x128 : Shape := ⟨3, ![1, 8192, 128]⟩

abbrev nBuf : Space → Nat
  | .hbm => 27
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S16384x128, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x128, .f32⟩
  | .hbm, ⟨22, _⟩ => ⟨S8192x128, .i1⟩
  | .hbm, ⟨23, _⟩ => ⟨S_, .f32⟩
  | .hbm, ⟨24, _⟩ => ⟨S8192x128, .f32⟩
  | .hbm, ⟨25, _⟩ => ⟨S8192x128, .f32⟩
  | .hbm, ⟨26, _⟩ => ⟨S1x8192x128, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Proof.Chunks.lean ====
/-
  The chunks the kernel moves. Each of the two SparseCores' sequencers copies 4096 rows of the table to the same rows of
  the result, in 16 chunks of 256 rows. Here: the two operands' chunks as the kernel slices them, the rows each one is,
  that the chunks are disjoint and fill the result, and that a chunk copied through a bank of the shared scratch leaves
  the table's rows in the result.
-/
module

public import proofs.«01_k».proof.Defs
public import Idealize.ShloMosaic.Lib.SparseCore.Quiescent
public import Idealize.ShloMosaic.Lib.Pipeline.Kit
public import Idealize.ShloMosaic.Lib.Tactic
public import Idealize.ShloMosaic.Lib.Ring
public import Idealize.ShloMosaic.Lib.ValueLayout
public import proofs.«01_k».proof.Proof.Gen.KernelIdeal

@[expose] public section

noncomputable section

namespace Cert.Proof.CopyRows

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode
open Idealize.ShloMosaic.Rounds

variable {F : FTy → Type}

/-- The grid point of SparseCore `c`. -/
def coordsS (c : Fin (grid0.bound 0)) : grid0.Coords :=
  fun | 0 => c | ⟨_ + 1, h⟩ => absurd h (Nat.not_lt.2 (Nat.le_add_left _ _))

/-- The sequencer of SparseCore `c`. -/
abbrev Sq (d : Dev nD) (c : Fin (grid0.bound 0)) : Thread nD τ := SparseCore.S d (c.castLE hcore0)

/-- The arrays on device `d`: the kernel's first operand (unread), the table, the result. -/
abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-! ## The chunks as the kernel slices them -/

/-- 256 rows of the table at the kernel's own offsets, which take the chunk's first row as the constant `w`. -/
abbrev tM (i : grid0.Coords) (w : BitVec 32) (h : ∀ a, k0_off1 i w a + S256x128.size a ≤ S16384x128.size a) :
    Memref sig .scScalar .hbm S256x128 .f32 :=
  (Memref.whole main_arg1_scs).slice (Rect.unit (s := S16384x128) (k0_off1 i w) S256x128.size h) (fun _ => rfl)

/-- 256 rows of the result likewise, out of its one leading slab. -/
abbrev oM (i : grid0.Coords) (w : BitVec 32) (h : ∀ a, k0_off2 i w a + S256x128.size a ≤ S8192x128.size a) :
    Memref sig .scScalar .hbm S256x128 .f32 :=
  (((Memref.whole main_v0_scs).slice (Rect.unit (s := S1x8192x128) ![0, 0, 0] S1x8192x128.size
      inb_S1x8192x128_S1x8192x128_0_0_0) (fun _ => rfl)).squeeze S8192x128 squeezes_S1x8192x128_S8192x128).slice
    (Rect.unit (s := S8192x128) (k0_off2 i w) S256x128.size h) (fun _ => rfl)

/-- Chunk `r`'s first row within its SparseCore's part, as a 32-bit constant. -/
abbrev word (r : Fin 16) : BitVec 32 := BitVec.ofNat 32 (256 * r.val)

/-- The elements of the table's and of the result's chunk `r` on SparseCore `c`. -/
abbrev tSet (c : Fin (grid0.bound 0)) (r : Fin 16) : Finset S16384x128.Idx := (tM (coordsS c) (word r) (k0_off1_inb _ r)).view.set
abbrev oSet (c : Fin (grid0.bound 0)) (r : Fin 16) : Finset S1x8192x128.Idx := (oM (coordsS c) (word r) (k0_off2_inb _ r)).view.set

/-! ## Which elements a chunk is -/

/-- Element `(a, b)` of a chunk of the table is at row `off + a`, column `b`. -/
theorem tM_emb (c : Fin (grid0.bound 0)) (r : Fin 16) (x : S256x128.Idx) :
    ((((tM (coordsS c) (word r) (k0_off1_inb _ r)).view.emb x : S16384x128.Idx) 0).val = 4096 * c.val + 256 * r.val + (x 0).val)
      ∧ (((tM (coordsS c) (word r) (k0_off1_inb _ r)).view.emb x : S16384x128.Idx) 1).val = (x 1).val := by
  have h := k0_off1_eq (coordsS c) r
  constructor
  · show k0_off1 (coordsS c) (word r) 0 + 1 * (x 0).val = _
    rw [h]; show 4096 * c.val + 256 * r.val + 1 * (x 0).val = _; omega
  · show k0_off1 (coordsS c) (word r) 1 + 1 * (x 1).val = _
    rw [h]; show 0 + 1 * (x 1).val = _; omega

/-- Element `(a, b)` of a chunk of the result is at row `off + a`, column `b` of its one slab. -/
theorem oM_emb (c : Fin (grid0.bound 0)) (r : Fin 16) (x : S256x128.Idx) :
    ((((oM (coordsS c) (word r) (k0_off2_inb _ r)).view.emb x : S1x8192x128.Idx) 1).val = 4096 * c.val + 256 * r.val + (x 0).val)
      ∧ (((oM (coordsS c) (word r) (k0_off2_inb _ r)).view.emb x : S1x8192x128.Idx) 2).val = (x 1).val := by
  have h := k0_off2_eq (coordsS c) r
  have e : ∀ y : S8192x128.Idx, Shape.reshapeEquiv squeezes_S1x8192x128_S8192x128.numel_eq y = ix3 (⟨0, Nat.one_pos⟩ : Fin 1) (y 0) (y 1) := fun y => by
    conv_lhs => rw [eq_ix2 y]
    exact reshapeEquiv_ix2_1ab (a := 8192) (b := 128) _ _ _
  have e' : ((oM (coordsS c) (word r) (k0_off2_inb _ r)).view.emb x : S1x8192x128.Idx)
      = (Rect.unit (s := S1x8192x128) ![0, 0, 0] S1x8192x128.size inb_S1x8192x128_S1x8192x128_0_0_0).emb
          (Shape.reshapeEquiv squeezes_S1x8192x128_S8192x128.numel_eq
            ((Rect.unit (s := S8192x128) (k0_off2 (coordsS c) (word r)) S256x128.size (k0_off2_inb _ r)).emb x)) := rfl
  rw [e', e]
  constructor
  · show 0 + 1 * (k0_off2 (coordsS c) (word r) 0 + 1 * (x 0).val) = _
    rw [h]; show 0 + 1 * (4096 * c.val + 256 * r.val + 1 * (x 0).val) = _; omega
  · show 0 + 1 * (k0_off2 (coordsS c) (word r) 1 + 1 * (x 1).val) = _
    rw [h]; show 0 + 1 * (0 + 1 * (x 1).val) = _; omega

/-- Chunk `r` of the table on SparseCore `c` lies in the 256 rows from `4096 c + 256 r`. -/
theorem tSet_rows {c : Fin (grid0.bound 0)} {r : Fin 16} {i : S16384x128.Idx} (h : i ∈ tSet c r) :
    4096 * c.val + 256 * r.val ≤ (i 0).val ∧ (i 0).val < 4096 * c.val + 256 * r.val + 256 := by
  obtain ⟨x, -, rfl⟩ := Finset.mem_map.mp h
  have e := (tM_emb c r x).1
  have hx : (x 0).val < 256 := (x 0).isLt
  omega

/-- Chunk `r` of the result on SparseCore `c` is the 256 rows from `4096 c + 256 r`. -/
theorem mem_oSet {c : Fin (grid0.bound 0)} {r : Fin 16} {i : S1x8192x128.Idx} :
    i ∈ oSet c r ↔ 4096 * c.val + 256 * r.val ≤ (i 1).val ∧ (i 1).val < 4096 * c.val + 256 * r.val + 256 := by
  constructor
  · intro h
    obtain ⟨x, -, rfl⟩ := Finset.mem_map.mp h
    have e := (oM_emb c r x).1
    have hx : (x 0).val < 256 := (x 0).isLt
    omega
  · rintro ⟨h1, h2⟩
    let x : S256x128.Idx := ix2 (⟨(i 1).val - (4096 * c.val + 256 * r.val), by omega⟩ : Fin 256) (i 2 : Fin 128)
    have e := oM_emb c r x
    have e0 : (x 0).val = (i 1).val - (4096 * c.val + 256 * r.val) := rfl
    have e1 : (x 1).val = (i 2).val := rfl
    refine Finset.mem_map.mpr ⟨x, Finset.mem_univ _, funext fun a => Fin.ext ?_⟩
    match a with
    | ⟨0, _⟩ => exact congrArg Fin.val (Subsingleton.elim (α := Fin 1) _ _)
    | ⟨1, _⟩ => exact e.1.trans (e0 ▸ Nat.add_sub_of_le h1)
    | ⟨2, _⟩ => exact e.2.trans e1

/-- Two chunks of the table that share an element are the same chunk. -/
theorem tSet_disjoint (p p' : Fin (grid0.bound 0) × Fin 16) (h : p ≠ p') : Disjoint (tSet p.1 p.2) (tSet p'.1 p'.2) :=
  Finset.disjoint_left.mpr fun i hi hi' => h (by
    have h1 := tSet_rows hi
    have h2 := tSet_rows hi'
    have := p.2.isLt; have := p'.2.isLt
    exact Prod.ext (Fin.ext (by omega)) (Fin.ext (by omega)))

/-- Two chunks of the result that share an element are the same chunk. -/
theorem oSet_disjoint (p p' : Fin (grid0.bound 0) × Fin 16) (h : p ≠ p') : Disjoint (oSet p.1 p.2) (oSet p'.1 p'.2) :=
  Finset.disjoint_left.mpr fun i hi hi' => h (by
    have h1 := mem_oSet.mp hi
    have h2 := mem_oSet.mp hi'
    have := p.2.isLt; have := p'.2.isLt
    exact Prod.ext (Fin.ext (by omega)) (Fin.ext (by omega)))

/-- The two SparseCores' chunks are the whole result. -/
theorem oSet_cover : (Finset.univ : Finset (Fin (grid0.bound 0) × Fin 16)).biUnion (fun p => oSet p.1 p.2) = Finset.univ := by
  refine Finset.eq_univ_iff_forall.mpr fun i => Finset.mem_biUnion.mpr ?_
  have hi : (i 1).val < 8192 := (i 1).isLt
  refine ⟨((⟨(i 1).val / 4096, ?_⟩ : Fin 2), (⟨(i 1).val % 4096 / 256, by omega⟩ : Fin 16)), Finset.mem_univ _, mem_oSet.mpr ?_⟩
  · omega
  · show 4096 * ((i 1).val / 4096) + 256 * ((i 1).val % 4096 / 256) ≤ _ ∧ _
    constructor
    · omega
    · show _ < 4096 * ((i 1).val / 4096) + 256 * ((i 1).val % 4096 / 256) + 256
      omega

/-! ## What a chunk's copy leaves -/

variable (m : (ℓ : Loc nD τ sig) → Buf (Elt F) ℓ)

/-- The kernel's result: row `t` of its slab is row `t` of the table. -/
def G (d : Dev nD) : Buf (Elt F) (oLoc d) := fun i : S1x8192x128.Idx =>
  (m (tLoc d) : S16384x128.Idx → Elt F .f32) (ix2 (⟨(i 1).val, Nat.lt_trans (i 1).isLt (by decide)⟩ : Fin 16384) (i 2 : Fin 128))

local notation "𝕄" => MT nD τ sig (HIx 1) (Elt F) ℕ (URounds (GSem nD τ sig) ℕ × Counters) ℕ

/-- A chunk of the result written from a bank `b` of the shared scratch, itself last written from the same chunk of the
    table (whatever it held before), holds the kernel's result. -/
theorem chunk_value (d : Dev nD) (c : Fin (grid0.bound 0)) (r : Fin 16) (f : Buf (Elt F) (oLoc d))
    (b : Memref sig .scScalar .shared S256x128 .f32) (fs : b.view.ty.Contents (Elt F)) (L : List (View.Piece (Elt F) S256x128 .f32)) :
    ((oM (coordsS c) (word r) (k0_off2_inb _ r)).view.loc (Sq d c) ↦[oSet c r]{fullShare}
        (oM (coordsS c) (word r) (k0_off2_inb _ r)).view.writes (Elt F) f
          [⟨Rect.whole S256x128, ReadAs.same.apply (b.view.read (Elt F) (b.view.writes (Elt F) fs
            (⟨Rect.whole S256x128, ReadAs.same.apply ((tM (coordsS c) (word r) (k0_off1_inb _ r)).view.read (Elt F) (m (tLoc d)))⟩ :: L)))⟩] : sProp 𝕄)
      = oLoc d ↦[oSet c r]{fullShare} G m d := by
  refine pointsTo_congr fun i hi => ?_
  obtain ⟨x, -, rfl⟩ := Finset.mem_map.mp hi
  have hw : (Rect.whole S256x128).emb x = x := funext fun a => Fin.ext (by
    show 0 + 1 * (x a).val = (x a).val; omega)
  have h1 := View.read_writes_cons_hit (oM (coordsS c) (word r) (k0_off2_inb _ r)).view f (Rect.whole S256x128)
    (ReadAs.same.apply (b.view.read (Elt F) (b.view.writes (Elt F) fs
            (⟨Rect.whole S256x128, ReadAs.same.apply ((tM (coordsS c) (word r) (k0_off1_inb _ r)).view.read (Elt F) (m (tLoc d)))⟩ :: L)))) [] x x hw
  have h2 := View.read_writes_cons_hit b.view fs (Rect.whole S256x128)
    (ReadAs.same.apply ((tM (coordsS c) (word r) (k0_off1_inb _ r)).view.read (Elt F) (m (tLoc d)))) L x x hw
  refine (h1.trans (h2.trans ?_) :)
  show (m (tLoc d) : S16384x128.Idx → Elt F .f32) ((tM (coordsS c) (word r) (k0_off1_inb _ r)).view.emb x) = _
  refine congrArg (m (tLoc d) : S16384x128.Idx → Elt F .f32) (funext fun a => Fin.ext ?_)
  match a with
  | ⟨0, _⟩ => exact (tM_emb c r x).1.trans (oM_emb c r x).1.symm
  | ⟨1, _⟩ => exact (tM_emb c r x).2.trans (oM_emb c r x).2.symm

end Cert.Proof.CopyRows

end
-- ==== Proof.Body.lean ====
/-
  The kernel on one SparseCore's sequencer: from its 16 chunks of the table and of the result, the two banks of its shared
  scratch and its four transfer semaphores at zero, to the same with the result's chunks holding the table's rows.
-/
module

public import proofs.«01_k».proof.Proof.Chunks

@[expose] public section

noncomputable section

namespace Cert.Proof.CopyRows

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none

/-- The ghost state: the launch handshakes' rounds beside the transfers' counters. -/
abbrev UH : Type := URounds (GSem nD τ sig) ℕ
abbrev UU : Type := UH × Counters

local notation "𝕄" => MT nD τ sig (HIx 1) (Elt F) ℕ UU ℕ

variable (m : (ℓ : Loc nD τ sig) → Buf (Elt F) ℓ) (d : Dev nD) (c : Fin (grid0.bound 0))

/-! ## What the sequencer holds -/

/-- Its chunks of the table, at their launch contents. -/
def tableChunks : sProp 𝕄 := bigSep Finset.univ fun r : Fin 16 => tLoc d ↦[tSet c r]{fullShare} m (tLoc d)
/-- Its chunks of the result, at `f`. -/
def resultChunks (f : Buf (Elt F) (oLoc d)) : sProp 𝕄 := bigSep Finset.univ fun r : Fin 16 => oLoc d ↦[oSet c r]{fullShare} f

/-- One chunk of each, at the constant `w` the kernel slices it by. -/
abbrev tPts (w : BitVec 32) (h : ∀ a, k0_off1 (coordsS c) w a + S256x128.size a ≤ S16384x128.size a) : sProp 𝕄 :=
  (tM (coordsS c) w h).view.loc (Sq d c) ↦[(tM (coordsS c) w h).view.set]{fullShare} m (tLoc d)
abbrev oPts (w : BitVec 32) (h : ∀ a, k0_off2 (coordsS c) w a + S256x128.size a ≤ S8192x128.size a) (f : Buf (Elt F) (oLoc d)) : sProp 𝕄 :=
  (oM (coordsS c) w h).view.loc (Sq d c) ↦[(oM (coordsS c) w h).view.set]{fullShare} f

/-- A family over the 16 chunks, one by one. -/
theorem bigSep16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- The chunks of the table in the kernel's own spelling. -/
theorem tableChunks_eq : tableChunks m d c
    = iprop(
          tPts m d c 0#32 (k0_off1_inb _ 0) ∗ tPts m d c 256#32 (k0_off1_inb _ 1) ∗ tPts m d c 512#32 (k0_off1_inb _ 2)
          ∗ tPts m d c 768#32 (k0_off1_inb _ 3) ∗ tPts m d c 1024#32 (k0_off1_inb _ 4) ∗ tPts m d c 1280#32 (k0_off1_inb _ 5)
          ∗ tPts m d c 1536#32 (k0_off1_inb _ 6) ∗ tPts m d c 1792#32 (k0_off1_inb _ 7) ∗ tPts m d c 2048#32 (k0_off1_inb _ 8)
          ∗ tPts m d c 2304#32 (k0_off1_inb _ 9) ∗ tPts m d c 2560#32 (k0_off1_inb _ 10)
          ∗ tPts m d c 2816#32 (k0_off1_inb _ 11) ∗ tPts m d c 3072#32 (k0_off1_inb _ 12)
          ∗ tPts m d c 3328#32 (k0_off1_inb _ 13) ∗ tPts m d c 3584#32 (k0_off1_inb _ 14)
          ∗ tPts m d c 3840#32 (k0_off1_inb _ 15)) :=
  bigSep16 _

/-- The chunks of the result in the kernel's own spelling. -/
theorem resultChunks_eq (f : Buf (Elt F) (oLoc d)) : resultChunks d c f
    = iprop(
          oPts d c 0#32 (k0_off2_inb _ 0) f ∗ oPts d c 256#32 (k0_off2_inb _ 1) f ∗ oPts d c 512#32 (k0_off2_inb _ 2) f
          ∗ oPts d c 768#32 (k0_off2_inb _ 3) f ∗ oPts d c 1024#32 (k0_off2_inb _ 4) f ∗ oPts d c 1280#32 (k0_off2_inb _ 5) f
          ∗ oPts d c 1536#32 (k0_off2_inb _ 6) f ∗ oPts d c 1792#32 (k0_off2_inb _ 7) f ∗ oPts d c 2048#32 (k0_off2_inb _ 8) f
          ∗ oPts d c 2304#32 (k0_off2_inb _ 9) f ∗ oPts d c 2560#32 (k0_off2_inb _ 10) f
          ∗ oPts d c 2816#32 (k0_off2_inb _ 11) f ∗ oPts d c 3072#32 (k0_off2_inb _ 12) f
          ∗ oPts d c 3328#32 (k0_off2_inb _ 13) f ∗ oPts d c 3584#32 (k0_off2_inb _ 14) f
          ∗ oPts d c 3840#32 (k0_off2_inb _ 15) f) :=
  bigSep16 _

/-- Bank `j` of the shared scratch as the kernel slices it, and the bank held at `f`. -/
abbrev bM (j : Nat) (h : ∀ a, (![j, 0, 0] : Fin 3 → Nat) a + S1x256x128.size a ≤ S2x256x128.size a) : Memref sig .scScalar .shared S256x128 .f32 :=
  ((Memref.whole cc0_scratch0).slice (Rect.unit (s := S2x256x128) ![j, 0, 0] S1x256x128.size h) (fun _ => rfl)).squeeze S256x128
    squeezes_S1x256x128_S256x128
abbrev bPts (j : Nat) (h : ∀ a, (![j, 0, 0] : Fin 3 → Nat) a + S1x256x128.size a ≤ S2x256x128.size a)
    (f : Buf (Elt F) ((bM j h).view.loc (Sq d c))) : sProp 𝕄 :=
  (bM j h).view.loc (Sq d c) ↦[(bM j h).view.set]{fullShare} f

/-- The kernel's transfer semaphores: 0 and 1 for the copies in, 2 and 3 for the copies out; and the four at zero. -/
abbrev csem (k : Nat) (hk : k < 4 := by decide) : DmaSem sig := ⟨k, hk⟩
abbrev cells0 : sProp 𝕄 :=
  iprop(semVal (Sq d c, SemLoc.dma (csem 0)) 0 ∗ semVal (Sq d c, SemLoc.dma (csem 1)) 0
    ∗ semVal (Sq d c, SemLoc.dma (csem 2)) 0 ∗ semVal (Sq d c, SemLoc.dma (csem 3)) 0)

/-- `chunk_value` as an entailment, the chunk of the result in the kernel's own spelling. -/
theorem chunk_done (r : Fin 16) {f : Buf (Elt F) (oLoc d)} {b : Memref sig .scScalar .shared S256x128 .f32}
    {fs : b.view.ty.Contents (Elt F)} {L : List (View.Piece (Elt F) S256x128 .f32)} :
    (oPts d c (word r) (k0_off2_inb _ r) ((oM (coordsS c) (word r) (k0_off2_inb _ r)).view.writes (Elt F) f
          [⟨Rect.whole S256x128, ReadAs.same.apply (b.view.read (Elt F) (b.view.writes (Elt F) fs
            (⟨Rect.whole S256x128, ReadAs.same.apply ((tM (coordsS c) (word r) (k0_off1_inb _ r)).view.read (Elt F) (m (tLoc d)))⟩ :: L)))⟩]) : sProp 𝕄)
      ⊢ oLoc d ↦[oSet c r]{fullShare} G m d := Entails.of_eq (chunk_value m d c r f b fs L)

variable [FloatOps F]

/-! ## The run -/

/-- The kernel on SparseCore `c`'s sequencer: every copy waited for, the table's chunks back as they were, the result's at
    the table's rows, the banks at whatever they hold, the semaphores back at zero. -/
theorem seq_run (O : CellTallies nD τ sig (HIx 1)) (W : Waits sig (HIx 1))
    (f : Buf (Elt F) (oLoc d)) (fs0 fs1 : Buf (Elt F) ((Sq d c).loc cc0_scratch0)) :
    (iprop(Transfers.MayWaits (Sq d c) (none : HIx 1) O
        ∗ tableChunks m d c ∗ resultChunks d c f
        ∗ bPts d c 0 inb_S2x256x128_S1x256x128_0_0_0 fs0
        ∗ bPts d c 1 inb_S2x256x128_S1x256x128_1_0_0 fs1
        ∗ cells0 d c
        ∗ owes (Sq d c) O W) : sProp 𝕄)
      ⊢ wp frame (wpE (defs₀ (F := F)) 𝒱₀ (Sq d c) none) Set.univ
          (cc0_copy_rows (coordsS c) (Memref.whole main_arg1_scs) (Memref.isWhole_whole _) (Memref.whole main_v0_scs) (Memref.isWhole_whole _)
            (Memref.whole cc0_scratch0) (Memref.isWhole_whole _) cc0_scratch1 cc0_scratch2)
          fun _ => iprop(tableChunks m d c ∗ resultChunks d c (G m d)
            ∗ (∃ f, bPts d c 0 inb_S2x256x128_S1x256x128_0_0_0 f)
            ∗ (∃ f, bPts d c 1 inb_S2x256x128_S1x256x128_1_0_0 f)
            ∗ cells0 d c
            ∗ ∃ W', owes (Sq d c) O W') := by
  rw [tableChunks_eq, resultChunks_eq]
  iintro ⟨#Hmw, ⟨Ht0, Ht1, Ht2, Ht3, Ht4, Ht5, Ht6, Ht7, Ht8, Ht9, Ht10, Ht11, Ht12, Ht13, Ht14, Ht15⟩,
    ⟨Ho0, Ho1, Ho2, Ho3, Ho4, Ho5, Ho6, Ho7, Ho8, Ho9, Ho10, Ho11, Ho12, Ho13, Ho14, Ho15⟩, Hb0, Hb1, ⟨Hc0, Hc1, Hc2, Hc3⟩, HO⟩
  sl_unfold [cc0_copy_rows]
  sl_exec (disch := exact View.amount_pos _ _ (show 0 < S256x128.numel by decide))
  sl_step
  isplitl [Ht0 Ht1 Ht2 Ht3 Ht4 Ht5 Ht6 Ht7 Ht8 Ht9 Ht10 Ht11 Ht12 Ht13 Ht14 Ht15]
  · sl_close
  isplitl [Ho0 Ho1 Ho2 Ho3 Ho4 Ho5 Ho6 Ho7 Ho8 Ho9 Ho10 Ho11 Ho12 Ho13 Ho14 Ho15]
  · unfold resultChunks
    rw [bigSep16]
    isplitl [Ho0]; · iapply (chunk_done m d c 0); iexact Ho0
    isplitl [Ho1]; · iapply (chunk_done m d c 1); iexact Ho1
    isplitl [Ho2]; · iapply (chunk_done m d c 2); iexact Ho2
    isplitl [Ho3]; · iapply (chunk_done m d c 3); iexact Ho3
    isplitl [Ho4]; · iapply (chunk_done m d c 4); iexact Ho4
    isplitl [Ho5]; · iapply (chunk_done m d c 5); iexact Ho5
    isplitl [Ho6]; · iapply (chunk_done m d c 6); iexact Ho6
    isplitl [Ho7]; · iapply (chunk_done m d c 7); iexact Ho7
    isplitl [Ho8]; · iapply (chunk_done m d c 8); iexact Ho8
    isplitl [Ho9]; · iapply (chunk_done m d c 9); iexact Ho9
    isplitl [Ho10]; · iapply (chunk_done m d c 10); iexact Ho10
    isplitl [Ho11]; · iapply (chunk_done m d c 11); iexact Ho11
    isplitl [Ho12]; · iapply (chunk_done m d c 12); iexact Ho12
    isplitl [Ho13]; · iapply (chunk_done m d c 13); iexact Ho13
    isplitl [Ho14]; · iapply (chunk_done m d c 14); iexact Ho14
    iapply (chunk_done m d c 15); iexact Ho15
  isplitl [Hb0]; · iexists _; iexact Hb0
  isplitl [Hb1]; · iexists _; iexact Hb1
  isplitl [Hc0 Hc1 Hc2 Hc3]
  · isplitl [Hc0]; · iexact Hc0
    isplitl [Hc1]; · iexact Hc1
    isplitl [Hc2]; · iexact Hc2
    iexact Hc3
  iexists _; iexact HO

end Cert.Proof.CopyRows

end
-- ==== Proof.Launch.lean ====
/-
  The kernel's launch. @main starts the kernel on both SparseCores and waits for it: each sequencer is handed its chunks of
  the table and of the result and hands them back, the result's at the table's rows. From that, the run of the whole
  program: the table and the unread operand as they were, the result at the table's first 8192 rows, every semaphore
  counter back at zero.
-/
module

public import proofs.«01_k».proof.Proof.Body

@[expose] public section

noncomputable section

namespace Cert.Proof.CopyRows

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

/-- The launch's semaphores are none of the kernel's own, and no shared buffer is a tile's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds in the ghost state. -/
abbrev EH : Emb UH (MT nD τ sig (HIx 1) (Elt F) ℕ UU ℕ) := embL

variable (m : (ℓ : Loc nD τ sig) → Buf (Elt F) ℓ) (ρ : Dev nD → PrngReg)

/-! ## What the call hands over -/

/-- The grid point of a call's SparseCore `c`. -/
def gcore (q : Fin 1) (c : Fin ((K (F := F)).nCore q)) : Fin (grid0.bound 0) :=
  ⟨c.val, match q, c with | 0, c => c.isLt⟩

/-- A sequencer is handed its chunks of the table and of the result (at whatever it holds) and hands them back, the
    result's at the table's rows. -/
def P : (K (F := F)).Pay (nD := nD) (Val := Elt F) (Name := ℕ) (U := UU) where
  st := fun q d c => iprop(tableChunks m d (gcore q c) ∗ ∃ f, resultChunks d (gcore q c) f)
  dn := fun q d c => iprop(tableChunks m d (gcore q c) ∗ resultChunks d (gcore q c) (G m d))
  go := fun _ _ _ _ => iprop(emp)
  td := fun _ _ _ _ => iprop(emp)
  x := fun _ _ => iprop(emp)

instance P_storable : (P (F := F) m).IsStorable where
  st _ d c := by unfold P tableChunks resultChunks; infer_instance
  dn _ d c := by unfold P tableChunks resultChunks; infer_instance
  go _ _ _ _ := by unfold P; infer_instance
  td _ _ _ _ := by unfold P; infer_instance

/-! ## The sequencer's own buffers and semaphores -/

section Seq

variable (d : Dev nD) (c : Fin (grid0.bound 0))

/-- The kernel's four semaphores on the sequencer, as a family. -/
abbrev dcell (k : Fin 4) : GSem nD τ sig := (Sq d c, .dma (csem k.val k.isLt))

/-- Each is one of the sequencer's own cells. -/
theorem dcell_mem (k : Fin 4) : dcell d c k ∈ ownCells (Sq d c) :=
  mem_ownCells.mpr ⟨rfl, (show ∀ s : DmaSem sig, (SemLoc.dma s : SemLoc sig).isScoped .scScalar = true by decide) _⟩

/-- The sequencer's own cells at zero are the kernel's four and the rest. -/
theorem ownSems0_S :
    (ownSems0 (Sq d c) : sProp 𝕄)
      = iprop(cells0 d c ∗ bigSep ((ownCells (Sq d c)) \ Finset.univ.image (dcell d c)) fun g => semVal g 0) := by
  unfold SparseCore.Cfg.ownSems0
  rw [SparseCore.bigSep_sdiff_split' (t := Finset.univ.image (dcell d c)) (Finset.image_subset_iff.mpr fun k _ => dcell_mem d c k),
    SparseCore.bigSep_image_of_injOn (fun a _ b _ h => by
      have := congrArg (fun g : GSem nD τ sig => g.2) h
      simp only [SemLoc.dma.injEq, Fin.mk.injEq] at this; exact Fin.ext this)]
  rw [bigSep_univ_eq_bigSepL [0, 1, 2, 3] (by decide) (by decide)]
  rfl

/-- The SparseCore's shared scratch, which its sequencer holds. -/
abbrev shLoc : Loc nD τ sig := (Sq d c).loc cc0_scratch0

/-- The sequencer's own buffers are the shared scratch, at some contents, and the rest. -/
theorem ownBufs_S :
    (ownBufs (Sq d c) : sProp 𝕄)
      = iprop((∃ f, shLoc d c ↦{fullShare} f)
          ∗ bigSep ((ownRefs (τ := τ) (.scScalar (c.castLE hcore0))).erase ((Proc.scScalar (c.castLE hcore0)).devRef cc0_scratch0))
              fun b => iprop(∃ f, ((d, b) : Loc nD τ sig) ↦{fullShare} f)) := by
  unfold SparseCore.Cfg.ownBufs
  exact SparseCore.bigSep_erase' ((mem_ownRefs (p := Proc.scScalar (c.castLE hcore0))
    (b := (Proc.scScalar (c.castLE hcore0)).devRef cc0_scratch0)).mpr rfl)

/-! ### The two banks of the scratch -/

/-- Either bank lies in the scratch. -/
theorem inb_bank (j : Fin 2) : ∀ a, (![j.val, 0, 0] : Fin 3 → Nat) a + S1x256x128.size a ≤ S2x256x128.size a := by
  have := j.isLt; intro a; fin_cases a <;> simp <;> omega

/-- Bank `j`'s elements of the scratch. -/
abbrev bankSet (j : Fin 2) : Finset S2x256x128.Idx := (Rect.unit (s := S2x256x128) ![j.val, 0, 0] S1x256x128.size (inb_bank j)).set

/-- They are the elements of the bank as the kernel slices it. -/
theorem bankSet_eq (j : Fin 2) : (bM j.val (inb_bank j)).view.set = bankSet j := by
  simp only [bM, Memref.view_squeeze, View.set_reshape]; exact View.set_slice_whole _ _

/-- The two banks share no element. -/
theorem banks_disjoint (j j' : Fin 2) (hj : j ≠ j') : Disjoint (bankSet j) (bankSet j') :=
  Ring.lead_disjoint (s := S2x256x128) (0 : Fin 3) 1 (fun j : Fin 2 => (![j.val, 0, 0] : Fin 3 → Nat)) S1x256x128.size inb_bank (fun j => by simp) rfl j j' hj

/-- Every element of the scratch is in one of them. -/
theorem banks_cover : Finset.univ.biUnion bankSet = Finset.univ :=
  Ring.lead_cover (s := S2x256x128) (0 : Fin 3) 1 (fun j : Fin 2 => (![j.val, 0, 0] : Fin 3 → Nat)) S1x256x128.size inb_bank (fun j => by simp)
    (fun j a ha => by fin_cases a <;> first | exact absurd rfl ha | rfl) rfl (fun a ha => by fin_cases a <;> first | exact absurd rfl ha | rfl) rfl

/-- A bank held is its elements of the scratch held. -/
theorem bPts_eq (j : Fin 2) (f : Buf (Elt F) (shLoc d c)) :
    (bPts d c j.val (inb_bank j) f : sProp 𝕄) = shLoc d c ↦[bankSet j]{fullShare} f := by
  unfold bPts; rw [bankSet_eq]

/-- The scratch at anything is its two banks at something each, -/
theorem banks_in : iprop(∃ f, shLoc d c ↦{fullShare} f)
    ⊢ (iprop((∃ f, bPts d c 0 inb_S2x256x128_S1x256x128_0_0_0 f) ∗ ∃ f, bPts d c 1 inb_S2x256x128_S1x256x128_1_0_0 f) : sProp 𝕄) :=
  Ring.slots2_split (U := UU) (ℓ := shLoc d c) (q := fullShare) bankSet banks_disjoint banks_cover
    (bPts d c 0 inb_S2x256x128_S1x256x128_0_0_0) (bPts d c 1 inb_S2x256x128_S1x256x128_1_0_0) (bPts_eq d c 0) (bPts_eq d c 1)
/-- and back. -/
theorem banks_out :
    (iprop((∃ f, bPts d c 0 inb_S2x256x128_S1x256x128_0_0_0 f) ∗ ∃ f, bPts d c 1 inb_S2x256x128_S1x256x128_1_0_0 f) : sProp 𝕄)
    ⊢ iprop(∃ f, shLoc d c ↦{fullShare} f) :=
  Ring.slots2_join (U := UU) (ℓ := shLoc d c) (q := fullShare) bankSet banks_disjoint banks_cover
    (bPts d c 0 inb_S2x256x128_S1x256x128_0_0_0) (bPts d c 1 inb_S2x256x128_S1x256x128_1_0_0) (bPts_eq d c 0) (bPts_eq d c 1)

end Seq

variable [FloatOps F]

/-! ## The sequencer's obligation -/

/-- The kernel on SparseCore `c`'s sequencer, from what the call hands it and everything that is the sequencer's own, to
    what the call takes back and the same. -/
theorem body (d : Dev nD) (c : Fin (grid0.bound 0)) (O : CellTallies nD τ sig (HIx 1)) (W : Waits sig (HIx 1)) (hO : ∀ g, O g none = 0) :
    iprop(levAts (K (F := F)).L (K (F := F)).lev ∗ emp ∗ (tableChunks m d c ∗ ∃ f, resultChunks d c f)
        ∗ scopedBufs (Sq d c) ∗ scopedSems0 (Sq d c) ∗ owes (Sq d c) O W)
      ⊢ wp frame (wpE (defs₀ (F := F)) 𝒱₀ (Sq d c) none) Set.univ
          (cc0_copy_rows (coordsS c) (Memref.whole main_arg1_scs) (Memref.isWhole_whole _) (Memref.whole main_v0_scs) (Memref.isWhole_whole _)
            (Memref.whole cc0_scratch0) (Memref.isWhole_whole _) cc0_scratch1 cc0_scratch2)
          fun _ => iprop((tableChunks m d c ∗ resultChunks d c (G m d)) ∗ scopedBufs (Sq d c) ∗ scopedSems0 (Sq d c)
            ∗ ∃ W', ⌜∀ p ∈ W', p ∈ W ∨ p.2 = none ∨ p.2 = some (0 : Fin 1)⌝ ∗ owes (Sq d c) O W') := by
  rw [(K (F := F)).scopedBufs_S facts d _, SparseCore.Cfg.scopedSems0_S (Val := Elt F) d _, ownSems0_S, ownBufs_S]
  iintro ⟨#Hlv, -, ⟨Ht, %f, Ho⟩, ⟨⟨Hsh, Hbufs⟩, Htiles⟩, ⟨⟨HC, Hsems⟩, HtileSems⟩, HO⟩
  ihave Hmw := ((K (F := F)).mayWaits_none (thr := Sq d c) hO) $$ Hlv
  ihave Hb := (banks_in (F := F) d c) $$ Hsh
  icases Hb with ⟨⟨%f0, Hb0⟩, ⟨%f1, Hb1⟩⟩
  iapply (wp_wand_r Idealize.ShloMosaic.frame (wpE (defs₀ (F := F)) 𝒱₀ (Sq d c) none) Set.univ)
  isplitl [Ht Ho Hb0 Hb1 HC HO]
  · iapply (seq_run m d c O W f f0 f1)
    isplitr; · iexact Hmw
    isplitl [Ht]; · iexact Ht
    isplitl [Ho]; · iexact Ho
    isplitl [Hb0]; · iexact Hb0
    isplitl [Hb1]; · iexact Hb1
    isplitl [HC]; · iexact HC
    iexact HO
  iintro %_ ⟨Ht, Ho, Hb0, Hb1, HC, %W', HO⟩
  ihave Hsh := (banks_out (F := F) d c) $$ [Hb0 Hb1]
  · isplitl [Hb0]; · iexact Hb0
    iexact Hb1
  isplitl [Ht Ho]
  · isplitl [Ht]; · iexact Ht
    iexact Ho
  isplitl [Hsh Hbufs Htiles]
  · isplitl [Hsh Hbufs]
    · isplitl [Hsh]; · iexact Hsh
      iexact Hbufs
    iexact Htiles
  isplitl [HC Hsems HtileSems]
  · isplitl [HC Hsems]
    · isplitl [HC]; · iexact HC
      iexact Hsems
    iexact HtileSems
  iexists W'; isplitr
  · ipureintro; intro p _
    rcases p.2 with _ | q
    · exact .inr (.inl rfl)
    · exact .inr (.inr (congrArg some (Subsingleton.elim q 0)))
  · iexact HO

/-- What a sequencer runs at the call. -/
theorem defs₀_scalar (c : Fin τ.nSC) :
    defs₀ (F := F) (.scScalar c) 0 ()
      = SparseCore.onCore hcore0 (fun c => cc0_copy_rows (coordsS c) (Memref.whole main_arg1_scs) (Memref.isWhole_whole _)
          (Memref.whole main_v0_scs) (Memref.isWhole_whole _) (Memref.whole cc0_scratch0) (Memref.isWhole_whole _) cc0_scratch1 cc0_scratch2) ⟨⟩ c := rfl

/-- Every sequencer of the call meets the payloads `P`. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact body m d ⟨_, hc⟩ O W hO

/-! ## The launch element: the handshakes' rounds, and nothing of the kernel's own -/

/-- The ghost state at launch. -/
def u₀ : UU := (initOf (K (F := F)).hsCells (K (F := F)).hsToks, 1)

/-- It gives the handshakes' rounds, and nothing to any device or thread. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have he : ∀ {I : Type} (s : Finset I), (bigSep s fun _ => iprop(emp)) = (iprop(emp) : sProp 𝕄) := fun s => bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [he]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), he]
  iempintro

/-! ## @main on the TensorCore -/

/-- The TensorCore's arrays: the unread operand, the table, the result. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The rows of the table that neither SparseCore reads. -/
abbrev tRest : Finset S16384x128.Idx :=
  Finset.univ \ (Finset.univ : Finset (Fin (grid0.bound 0) × Fin 16)).biUnion fun p => tSet p.1 p.2

/-- The table is both SparseCores' chunks of it and the rest. -/
theorem table_split (d : Dev nD) :
    (iprop(tLoc d ↦{fullShare} m (tLoc d)) : sProp 𝕄)
      ⊣⊢ iprop(bigSep Finset.univ (tableChunks m d) ∗ tLoc d ↦[tRest]{fullShare} m (tLoc d)) := by
  have h := pointsTo_split_subset (Ix := HIx 1) (Name := ℕ) (U := UU) (Lvl := ℕ) (Val := Elt F) (ℓ := tLoc d) (q := fullShare) (f := m (tLoc d))
    (Finset.subset_univ ((Finset.univ : Finset (Fin (grid0.bound 0) × Fin 16)).biUnion fun p => tSet p.1 p.2))
  rw [pointsTo_biUnion _ _ (fun p _ p' _ hp => tSet_disjoint p p' hp), bigSep_univ_prod] at h
  exact h

/-- The result is both SparseCores' chunks of it. -/
theorem result_split (d : Dev nD) (f : Buf (Elt F) (oLoc d)) :
    (iprop(oLoc d ↦{fullShare} f) : sProp 𝕄) = bigSep Finset.univ fun c => resultChunks d c f := by
  rw [← oSet_cover, pointsTo_biUnion _ _ (fun p _ p' _ hp => oSet_disjoint p p' hp), bigSep_univ_prod]
  rfl

/-- What the call takes is both SparseCores' chunks, the result's at any one contents; -/
theorem st_intro (d : Dev nD) (f : Buf (Elt F) (oLoc d)) :
    iprop(bigSep Finset.univ (tableChunks m d) ∗ bigSep Finset.univ fun c => resultChunks d c f)
      ⊢ bigSep Finset.univ fun c : Fin ((K (F := F)).nCore 0) => (P m).st 0 d c := by
  rw [← bigSep_sep']
  refine bigSep_mono fun c _ => ?_
  show _ ⊢ iprop(tableChunks m d c ∗ ∃ f, resultChunks d c f)
  iintro ⟨Ht, Ho⟩
  isplitl [Ht]; · iexact Ht
  iexists f; iexact Ho
/-- and what it brings back is both SparseCores' chunks, the result's at the kernel's result. -/
theorem dn_eq (d : Dev nD) : (bigSep Finset.univ fun c : Fin ((K (F := F)).nCore 0) => (P m).dn 0 d c)
    = iprop(bigSep Finset.univ (tableChunks m d) ∗ bigSep Finset.univ fun c => resultChunks d c (G m d)) :=
  bigSep_sep' _ _ _

/-- What @main leaves: the unread operand and the table at their launch contents, the result at the table's rows. -/
abbrev FIN (d : Dev nD) : sProp 𝕄 :=
  iprop((xLoc d ↦{fullShare} m (xLoc d)) ∗ (tLoc d ↦{fullShare} m (tLoc d)) ∗ oLoc d ↦{fullShare} G m d)

/-- @main on device `d`'s TensorCore: the call, from the table's and the result's chunks to the same back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ht, Ho⟩, Hts, -⟩, -⟩
  ihave Ht' := (table_split m d).1 $$ Ht
  icases Ht' with ⟨Ht, Hrest⟩
  ihave Ho' := (Entails.of_eq (result_split (F := F) d _)) $$ Ho
  iapply ((K (F := F)).wp_run (D (F := F)) 𝒱 (EH := EH) (P := P m) κ d 0) $$ [Hst Ht Ho' Hb Hx Hrest Hts]
  isplitr; · iexact Hctx
  isplitl [Hst]; · iexact Hst
  isplitl [Ht Ho']
  · iapply (st_intro m d _)
    isplitl [Ht]; · iexact Ht
    iexact Ho'
  iintro ⟨Hst, Hdn⟩
  ihave Hdn' := (Entails.of_eq (dn_eq m d)) $$ Hdn
  icases Hdn' with ⟨Ht, Ho⟩
  imodintro
  isplitl [Hst]; · iexact Hst
  isplitl [Hx Ht Hrest Ho]
  · isplitl [Hx]; · iexact Hx
    isplitl [Ht Hrest]
    · iapply (table_split m d).2
      isplitl [Ht]; · iexact Ht
      iexact Hrest
    iapply (Entails.of_eq (result_split (F := F) d _).symm); iexact Ho
  isplitl [Hb] <;> iassumption

/-! ## The run -/

/-- Device `d`'s arrays at the end. -/
def fq (d : Dev nD) (s' : Phys nD τ sig (Elt F)) : Prop :=
  s'.mem.mem (oLoc d) = G m d ∧ s'.mem.mem (xLoc d) = m (xLoc d) ∧ s'.mem.mem (tLoc d) = m (tLoc d)

/-- An array held whole is what the memory holds of it. -/
theorem agree (s' : Phys nD τ sig (Elt F)) (ℓ : Loc nD τ sig) (f : Buf (Elt F) ℓ) :
    iprop(SI s' ∗ ℓ ↦{fullShare} f) ⊢ (⌜s'.mem.mem ℓ = f⌝ : sProp 𝕄) :=
  (SI_pointsTo_agree (st := s') (ℓ := ℓ) (I := Finset.univ) (q := fullShare) (f := f)).trans
    (Laws.pure_mono fun h => funext fun i => h i (Finset.mem_univ i))

/-- What @main leaves determines device `d`'s arrays at the end (`fq`). -/
theorem hfin (d : Dev nD) (s' : Phys nD τ sig (Elt F)) : iprop(FIN m d ∗ SI s') ⊢ (⌜fq m d s'⌝ : sProp 𝕄) := by
  iintro ⟨⟨Hx, Ht, Ho⟩, HSI⟩
  ihave H := (persistent_entails_right (agree s' (xLoc d) (m (xLoc d)))) $$ [HSI Hx]
  · isplitl [HSI] <;> iassumption
  icases H with ⟨%hx, HSI, -⟩
  ihave H := (persistent_entails_right (agree s' (tLoc d) (m (tLoc d)))) $$ [HSI Ht]
  · isplitl [HSI] <;> iassumption
  icases H with ⟨%ht, HSI, -⟩
  ihave H := (agree s' (oLoc d) (G m d)) $$ [HSI Ho]
  · isplitl [HSI] <;> iassumption
  icases H with %ho
  ipureintro; exact ⟨ho, hx, ht⟩

/-- The end of a run: every device's result at its table's rows, its arguments unchanged, every counter at zero. -/
def QC : PUnit × MemSt nD τ sig (Elt F) → Prop := fun r =>
  (∀ c : Dev nD, r.2.mem (oLoc c) = G m c ∧ r.2.mem (xLoc c) = m (xLoc c) ∧ r.2.mem (tLoc c) = m (tLoc c)) ∧ r.2.sem = fun _ => 0

/-- The program's run: it ends, nothing faulting, at `QC`. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.CopyRows

end
-- ==== Proof.RefRows.lean ====
/-
  What the reference computes. It gathers the rows 0 to 8191 of the table under `jnp.take`'s checks (a negative row wrapped,
  a row out of range filled in); no row here is negative or out of range, so its result is the table's first 8192 rows
  under a leading axis of size one.
-/
module

public import proofs.«01_k».proof.Defs
public import Idealize.ShloMosaic.Lib.Quiescent
public import Idealize.ShloMosaic.Lib.ReduceAll
public import Idealize.ShloMosaic.Lib.ValueLayout
public import Idealize.ShloMosaic.Lib.WordCmp
public import proofs.«01_k».proof.Proof.Gen.ReferenceIdeal
public import proofs.«01_k».proof.Proof.Gen.ReferenceIdeal.Run
public import proofs.«01_k».proof.Proof.Gen.Reference
public import proofs.«01_k».proof.Proof.Gen.Reference.Run

@[expose] public section

noncomputable section

namespace Cert.Proof.RefRows

open Cert.ReferenceIdeal Cert.ReferenceIdeal.Gen
open Idealize.ShloMosaic Idealize.ShloMosaic.ValueIdx Idealize.ShloMosaic.WordCmp Idealize.SL.Sem

variable {F : FTy → Type}

/-! ## The row numbers -/

/-- The rows `0 … 8191`, a negative one moved up by the table's height, as a column. -/
abbrev rowIdx : IVec S8192x1 32 :=
  broadcastInDim S8192x1 ![0] bcast_S8192_S8192x1_0
    (select (cmpi .slt (iotaInDim S8192 32 0) (broadcastInDim S8192 ![] bcast_S_S8192 (constantI S_ 32 0#32)))
      (addi (iotaInDim S8192 32 0) (broadcastInDim S8192 ![] bcast_S_S8192 (constantI S_ 32 16384#32)))
      (iotaInDim S8192 32 0))

/-- Whether each row is one of the table's. -/
abbrev inRange : IVec S8192 1 :=
  Host.reduce IntOp.andi
    (andi (cmpi .sge rowIdx (broadcastInDim S8192x1 ![] bcast_S_S8192x1 (constantI S_ 32 0#32)))
      (cmpi .sle rowIdx (broadcastInDim S8192x1 ![0, 1] bcast_S1x1_S8192x1_0_1
        (broadcastInDim S1x1 ![1] bcast_S1_S1x1_1 (constantI S1 32 16383#32)))))
    (constantI S_ 1 1#1) reducesTo_S8192x1_S8192_d1 h_S_

/-- A number below 8192 is itself as a signed 32-bit word. -/
theorem toInt_row {n : Nat} (h : n < 8192) : (BitVec.ofNat 32 n).toInt = (n : Int) := by
  rw [BitVec.toInt_eq_toNat_of_lt (by rw [BitVec.toNat_ofNat]; omega), BitVec.toNat_ofNat, Nat.mod_eq_of_lt (by omega)]

/-- Row `n` of the column is `n`: no row is negative. -/
theorem rowIdx_apply (j : S8192x1.Idx) : rowIdx j = BitVec.ofNat 32 (j 0).val := by
  have h : (j 0).val < 8192 := (j 0).isLt
  show (if IntOp.cmpi .slt (BitVec.ofNat 32 (j 0).val) 0#32 = 1 then _ else BitVec.ofNat 32 (j 0).val) = _
  refine if_neg ?_
  rw [cmpi_slt_eq, toInt_row h, decide_eq_false (by simp)]
  decide

/-- Every row is one of the table's. -/
theorem inRange_apply (j : S8192.Idx) : inRange j = 1#1 := by
  refine Host.reduce_andi_one _ _ _ _ j rfl fun i => ?_
  have h : (i 0).val < 8192 := (i 0).isLt
  show IntOp.andi (IntOp.cmpi .sge (rowIdx i) 0#32) (IntOp.cmpi .sle (rowIdx i) 16383#32) = 1#1
  rw [rowIdx_apply, cmpi_sge_eq, cmpi_sle_eq, toInt_row h, decide_eq_true (by simp),
    decide_eq_true (by rw [show (16383#32 : BitVec 32).toInt = 16383 from rfl]; omega)]
  rfl

/-! ## The gather and the whole -/

/-- Row `n` of the column. -/
abbrev col (n : Fin 8192) : S8192x1.Idx := ix2 n (⟨0, Nat.one_pos⟩ : Fin 1)

/-- The gather at row `a`, column `b`: the table at row number `a` of the column, read signed and kept within the table,
    column `b`. -/
theorem gather_apply {α : Type} (t : S16384x128.Idx → α) (idx : IVec S8192x1 32) (y : S8192x128.Idx) {n : Nat} (hn : n < 16384)
    (h : (idx (col (y 0))).toInt = (n : Int)) :
    Host.gather gather_S16384x128_S8192x1_S8192x128_1_0_n_n_0_1_1128 t idx y
      = t (ix2 (⟨n, hn⟩ : Fin 16384) (y 1 : Fin 128)) := by
  let g := gather_S16384x128_S8192x1_S8192x128_1_0_n_n_0_1_1128
  have hk : ∀ a, g.batchCoord y a = 0 := fun a => g.batchCoord_eq_zero y a List.not_mem_nil
  have h0 : (0 : Fin 2) ∈ g.startIndexMap := List.mem_singleton.mpr rfl
  have hs : g.siIdx y ⟨g.startIndexMap.idxOf (0 : Fin 2), List.idxOf_lt_length_iff.2 h0⟩
      = col (y 0) := funext fun b => Fin.ext (by
    match b with
    | ⟨0, _⟩ => rfl
    | ⟨1, _⟩ => rfl)
  have e0 : g.start y idx (0 : Fin 2) = n := by
    unfold GatherDims.start
    rw [dif_pos h0, hs, h]
    show min n (16384 - 1) = n
    omega
  have e1 : g.start y idx (1 : Fin 2) = 0 := dif_neg (fun h => absurd (List.mem_singleton.mp h) (by decide))
  refine congrArg t (funext fun a => Fin.ext ?_)
  show g.start y idx a + g.batchCoord y a + g.offCoord y a = _
  rw [hk]
  match a with
  | ⟨0, _⟩ =>
    exact (congrArg₂ (· + 0 + ·) e0 (g.offCoord_eq_zero y (0 : Fin 2) fun h => ((g.mem_sKept _).mp h).1 (List.mem_singleton.mpr rfl)))
  | ⟨1, _⟩ =>
    exact (congrArg (· + 0 + g.offCoord y (1 : Fin 2)) e1).trans (Nat.zero_add _)

/-- The table's first 8192 rows under a leading axis of size one. -/
abbrev rows (t : S16384x128.Idx → Elt F .f32) : S1x8192x128.Idx → Elt F .f32 := fun i =>
  t (ix2 (⟨(i 1).val, Nat.lt_trans (i 1).isLt (by decide)⟩ : Fin 16384) (i 2 : Fin 128))

variable [FloatOps F]

/-- The reference's result of the table `t`, as its operations compute it. -/
abbrev out (t : S16384x128.Idx → Elt F .f32) : S1x8192x128.Idx → Elt F .f32 :=
  broadcastInDim S1x8192x128 ![1, 2] bcast_S8192x128_S1x8192x128_1_2
    (select (broadcastInDim S8192x128 ![0] bcast_S8192_S8192x128_0 inRange)
      (Host.gather gather_S16384x128_S8192x1_S8192x128_1_0_n_n_0_1_1128 t rowIdx)
      (broadcastInDim S8192x128 ![] bcast_S_S8192x128 (constant S_ .f32 0x7FC00000#32)))

/-- It is the table's first 8192 rows. -/
theorem out_eq (t : S16384x128.Idx → Elt F .f32) : out t = rows t := by
  funext i
  let y : S8192x128.Idx := ix2 (i 1 : Fin 8192) (i 2 : Fin 128)
  have hy : out t i = (select (broadcastInDim S8192x128 ![0] bcast_S8192_S8192x128_0 inRange)
      (Host.gather gather_S16384x128_S8192x1_S8192x128_1_0_n_n_0_1_1128 t rowIdx)
      (broadcastInDim S8192x128 ![] bcast_S_S8192x128 (constant S_ .f32 0x7FC00000#32))) y := by
    show (select _ _ _ : S8192x128.Idx → Elt F .f32) _ = _
    refine congrArg _ (funext fun a => Fin.ext ?_)
    match a with
    | ⟨0, _⟩ => rfl
    | ⟨1, _⟩ => rfl
  rw [hy]
  have hr : (broadcastInDim S8192x128 ![0] bcast_S8192_S8192x128_0 inRange) y = 1#1 := inRange_apply _
  have hi : (rowIdx (col (y 0))).toInt = ((i 1).val : Int) := by
    rw [rowIdx_apply]; exact toInt_row (i 1).isLt
  have hg := gather_apply t rowIdx y (Nat.lt_trans (i 1).isLt (by decide : 8192 < 16384)) hi
  unfold select
  rw [hr]
  exact hg

/-! ## The two printed references' runs -/

/-- The idealized reference: its result is the table's first 8192 rows, its arguments unchanged, every counter at zero. -/
theorem run_ideal (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_v2)
            = rows (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
      ∧ r.2.sem = fun _ => 0 :=
  (θ_run Cert.ReferenceIdeal.defs _ _).mono
    (fun r h => ⟨fun c => ⟨(h c).1.trans (out_eq _), (h c).2⟩, sem_eq_zero_of_no_sems (by decide) r.2⟩)
    (Cert.ReferenceIdeal.Value.run m ρ)

/-- The reference as printed, the same operations: the same. -/
theorem run_ref (m : (ℓ : Loc Cert.Reference.nD Cert.Reference.τ Cert.Reference.sig) → Buf (Elt F) ℓ)
    (ρ : Dev Cert.Reference.nD → PrngReg) :
    θ_run Cert.Reference.defs (onTc (τ := Cert.Reference.τ) (Cert.Reference.main (F := F))) ⟨m, fun _ => 0, ρ⟩ fun r =>
      (∀ c : Dev Cert.Reference.nD,
        r.2.mem ((c.tc : Thread Cert.Reference.nD Cert.Reference.τ).loc Cert.Reference.main_v2)
            = rows (m ((c.tc : Thread Cert.Reference.nD Cert.Reference.τ).loc Cert.Reference.main_arg1))
        ∧ r.2.mem ((c.tc : Thread Cert.Reference.nD Cert.Reference.τ).loc Cert.Reference.main_arg0)
            = m ((c.tc : Thread Cert.Reference.nD Cert.Reference.τ).loc Cert.Reference.main_arg0)
        ∧ r.2.mem ((c.tc : Thread Cert.Reference.nD Cert.Reference.τ).loc Cert.Reference.main_arg1)
            = m ((c.tc : Thread Cert.Reference.nD Cert.Reference.τ).loc Cert.Reference.main_arg1))
      ∧ r.2.sem = fun _ => 0 := run_ideal m ρ

end Cert.Proof.RefRows

end
-- ==== Proof.lean ====
/-
  The claims: the kernel and its idealization, the reference and its idealization each run to their end with their
  arguments unchanged and every semaphore counter at zero; the idealization is the kernel; and kernel and reference leave
  the same result, element by element, both over the extended reals and at bit patterns. The shared value is the table's
  first 8192 rows.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Launch
public import proofs.«01_k».proof.Proof.RefRows
public import Idealize.ShloMosaic.Adequacy
public import Idealize.ShloMosaic.Init

@[expose] public section

noncomputable section

namespace Cert.Proof

open Idealize.ShloMosaic Idealize.SL.Sem

/-- `Cert.quiescent_Kernel`: the kernel's run, `CopyRows.run_main`, at bit patterns, read at the arguments and the counters. -/
theorem frame_kernel : Cert.quiescent_Kernel := fun m ρ _ =>
  (θ_run Cert.KernelIdeal.defs _ _).mono (fun _ h => ⟨fun c => (h.1 c).2, h.2⟩) (CopyRows.run_main (F := Bits) m ρ)

/-- `Cert.quiescent_KernelIdeal`: the same run over the extended reals. -/
theorem frame_kernelIdeal : Cert.quiescent_KernelIdeal := fun m ρ _ =>
  (θ_run Cert.KernelIdeal.defs _ _).mono (fun _ h => ⟨fun c => (h.1 c).2, h.2⟩) (CopyRows.run_main (F := Ideal) m ρ)

/-- `Cert.quiescent_ReferenceIdeal`: the reference's run, read at the arguments and the counters. -/
theorem frame_referenceIdeal : Cert.quiescent_ReferenceIdeal := fun m ρ _ =>
  (θ_run Cert.ReferenceIdeal.defs _ _).mono (fun _ h => ⟨fun c => (h.1 c).2, h.2⟩) (RefRows.run_ideal (F := Ideal) m ρ)

/-- `Cert.quiescent_Reference`: the same of the reference as printed. -/
theorem frame_reference : Cert.quiescent_Reference := fun m ρ _ =>
  (θ_run Cert.Reference.defs _ _).mono (fun _ h => ⟨fun c => (h.1 c).2, h.2⟩) (RefRows.run_ref (F := Bits) m ρ)

/-- `Cert.algebraic_KernelIdeal_ReferenceIdeal`: both results are the first 8192 rows of their tables, and the tables are
    the same. -/
theorem algebraic : Cert.algebraic_KernelIdeal_ReferenceIdeal := fun m ρ m' ρ' _ hagree =>
  ⟨fun c => CopyRows.G m c,
    (θ_run Cert.KernelIdeal.defs _ _).mono (fun _ h => h.1) (CopyRows.run_main (F := Ideal) m ρ),
    (θ_run Cert.ReferenceIdeal.defs _ _).mono
      (fun _ h c => ⟨(h.1 c).1.trans (congrArg RefRows.rows (hagree c).2), (h.1 c).2⟩) (RefRows.run_ideal (F := Ideal) m' ρ')⟩

/-- `Cert.bitexact_Kernel_Reference`: the same at bit patterns. -/
theorem bitexact : Cert.bitexact_Kernel_Reference := fun m ρ m' ρ' _ hagree =>
  ⟨fun c => CopyRows.G (F := Bits) m c,
    (θ_run Cert.KernelIdeal.defs _ _).mono (fun _ h => h.1) (CopyRows.run_main (F := Bits) m ρ),
    (θ_run Cert.Reference.defs _ _).mono
      (fun _ h c => ⟨(h.1 c).1.trans (congrArg RefRows.rows (hagree c).2), (h.1 c).2⟩) (RefRows.run_ref (F := Bits) m' ρ')⟩

/-- Every claim of the certificate. The kernel was not changed, so its idealization is the kernel (`trivial`). -/
theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, algebraic, bitexact⟩

end Cert.Proof

end
